-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S64x2048 : Shape := ⟨2, ![64, 2048]⟩
abbrev S64 : Shape := ⟨1, ![64]⟩
abbrev S16384x2048 : Shape := ⟨2, ![16384, 2048]⟩
abbrev S64x1 : Shape := ⟨2, ![64, 1]⟩
abbrev S8x1x2048 : Shape := ⟨3, ![8, 1, 2048]⟩
abbrev S16384x64 : Shape := ⟨2, ![16384, 64]⟩
abbrev S4x4096 : Shape := ⟨2, ![4, 4096]⟩
abbrev S4x4096x64 : Shape := ⟨3, ![4, 4096, 64]⟩
abbrev S2048x2048 : Shape := ⟨2, ![2048, 2048]⟩
abbrev S1x1x2048 : Shape := ⟨3, ![1, 1, 2048]⟩
abbrev S2048x64 : Shape := ⟨2, ![2048, 64]⟩
abbrev S2048 : Shape := ⟨1, ![2048]⟩
abbrev S1x2048 : Shape := ⟨2, ![1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S16384x2048, .f32⟩
  | .hbm, ⟨4, _⟩ => ⟨S64x1, .f32⟩
  | .hbm, ⟨5, _⟩ => ⟨S8x1x2048, .i32⟩
  | .hbm, ⟨6, _⟩ => ⟨S16384x64, .f32⟩
  | .hbm, ⟨7, _⟩ => ⟨S4x4096, .i32⟩
  | .hbm, ⟨8, _⟩ => ⟨S4x4096x64, .f32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S64x1, .f32⟩
  | .local _ .vmem, ⟨4, _⟩ => ⟨S1x1x2048, .i32⟩
  | .local _ .vmem, ⟨5, _⟩ => ⟨S1x1x2048, .i32⟩
  | .local _ .vmem, ⟨6, _⟩ => ⟨S2048x64, .f32⟩
  | .local _ .vmem, ⟨7, _⟩ => ⟨S2048x64, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S2048x64 : Shape := ⟨2, ![2048, 64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S4x4096x64, .i32⟩
  | .hbm, ⟨9, _⟩ => ⟨S_, .f32⟩
  | .hbm, ⟨10, _⟩ => ⟨S_, .i32⟩
  | .hbm, ⟨11, _⟩ => ⟨S4x4096, .f32⟩
  | .hbm, ⟨12, _⟩ => ⟨S4x4096, .i32⟩
  | .hbm, ⟨13, _⟩ => ⟨S4x4096x1, .i32⟩
  | .hbm, ⟨14, _⟩ => ⟨S1x1x64, .i32⟩
  | .hbm, ⟨15, _⟩ => ⟨S4x4096x64, .i32⟩
  | .hbm, ⟨16, _⟩ => ⟨S4x4096x64, .i32⟩
  | .hbm, ⟨17, _⟩ => ⟨S4x4096x64, .i1⟩
  | .hbm, ⟨18, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Proof.Argmax.lean ====
/-
  The mathematics of the router's choice, with no program in it: among 64 extended reals, the first position that
  holds the greatest of them. Two ways of computing that position are shown to find it: the minimum, over the
  positions, of "the position where the value is the maximum, 64 elsewhere", and a left fold that carries the best
  pair (value, position) seen so far.
-/
module

public import Idealize.ShloMosaic.PureOps.Reduce
public import Idealize.ShloMosaic.PureOps.Ideal.Laws

@[expose] public section

noncomputable section

open Idealize.ShloMosaic

namespace Cert.Router

/-- Position `p` is the first that holds the greatest value of `f`: no value exceeds `f p`, and every other
    position with that same value comes later. -/
def IsFirstMax (f : Fin 64 → EReal) (p : Fin 64) : Prop :=
  ∀ q, f q ≤ f p ∧ (f q = f p → p ≤ q)

/-- Every family of 64 extended reals has a first position of its greatest value. -/
theorem exists_isFirstMax (f : Fin 64 → EReal) : ∃ p, IsFirstMax f p := by
  classical
  obtain ⟨m, -, hm⟩ := Finset.exists_max_image Finset.univ f ⟨0, Finset.mem_univ _⟩
  have hne : (Finset.univ.filter fun p => f p = f m).Nonempty := ⟨m, by simp⟩
  obtain ⟨p, hp, hleast⟩ := Finset.exists_min_image _ (fun p : Fin 64 => p) hne
  have hpm : f p = f m := (Finset.mem_filter.1 hp).2
  refine ⟨p, fun q => ⟨hpm ▸ hm q (Finset.mem_univ _), fun hq => ?_⟩⟩
  exact hleast q (Finset.mem_filter.2 ⟨Finset.mem_univ _, hq.trans hpm⟩)

/-- The first position of the greatest value. -/
def firstMax (f : Fin 64 → EReal) : Fin 64 := (exists_isFirstMax f).choose

theorem firstMax_spec (f : Fin 64 → EReal) : IsFirstMax f (firstMax f) := (exists_isFirstMax f).choose_spec

/-- The maximum of the 64 values, folded from `⊥`, is the value at the first position of the greatest. -/
theorem fold_max_eq (f : Fin 64 → EReal) : Finset.univ.fold max ⊥ f = f (firstMax f) := by
  apply le_antisymm
  · exact (Finset.fold_max_le _).2 ⟨bot_le, fun q _ => (firstMax_spec f q).1⟩
  · exact (Finset.le_fold_max _).2 (.inr ⟨_, Finset.mem_univ _, le_rfl⟩)

/-- A word holding a position is that position as a signed integer. -/
theorem toInt_pos (p : Fin 64) : (BitVec.ofNat 32 (p : ℕ)).toInt = ((p : ℕ) : ℤ) := by
  revert p; decide +kernel

/-- The signed minimum of two words, as integers. -/
theorem toInt_minsi (a b : BitVec 32) : (IntOp.minsi a b).toInt = min a.toInt b.toInt := by
  simp only [IntOp.minsi, BitVec.slt, decide_eq_true_eq]
  split_ifs <;> omega

/-- A signed minimum over a set is `a`, once `a` is one of the words and no word (nor the initial one) is below it. -/
theorem fold_minsi_eq {ι : Type} (s : Finset ι) (g : ι → BitVec 32) (init a : BitVec 32)
    (hmem : ∃ p ∈ s, g p = a) (hle : ∀ p ∈ s, a.toInt ≤ (g p).toInt) (hinit : a.toInt ≤ init.toInt) :
    s.fold IntOp.minsi init g = a := by
  classical
  have lower : a.toInt ≤ (s.fold IntOp.minsi init g).toInt := by
    clear hmem
    induction s using Finset.induction_on with
    | empty => simpa using hinit
    | insert p s hp ih =>
      rw [Finset.fold_insert hp, toInt_minsi]
      exact le_min (hle p (Finset.mem_insert_self _ _)) (ih fun q hq => hle q (Finset.mem_insert_of_mem hq))
  have upper : ∀ p ∈ s, (s.fold IntOp.minsi init g).toInt ≤ (g p).toInt := by
    clear hmem hle hinit lower
    induction s using Finset.induction_on with
    | empty => intro p hp; exact absurd hp (Finset.notMem_empty p)
    | insert q s hq ih =>
      intro p hp
      rw [Finset.fold_insert hq, toInt_minsi]
      rcases Finset.mem_insert.1 hp with rfl | hp
      · exact min_le_left _ _
      · exact (min_le_right _ _).trans (ih p hp)
  obtain ⟨p, hp, rfl⟩ := hmem
  exact BitVec.eq_of_toInt_eq (le_antisymm (upper p hp) lower)

/-- The first way: keep each position whose value is the maximum, put 64 at the others, and take the minimum. -/
theorem fold_minsi_positions (f : Fin 64 → EReal) :
    Finset.univ.fold IntOp.minsi 2147483647#32
        (fun p : Fin 64 => if f p = Finset.univ.fold max ⊥ f then BitVec.ofNat 32 (p : ℕ) else 64#32)
      = BitVec.ofNat 32 (firstMax f : ℕ) := by
  have hp := (firstMax f).isLt
  refine fold_minsi_eq _ _ _ _ ⟨firstMax f, Finset.mem_univ _, if_pos (fold_max_eq f).symm⟩ (fun q _ => ?_) ?_
  · rw [fold_max_eq]
    split_ifs with h
    · rw [toInt_pos, toInt_pos]
      exact_mod_cast (firstMax_spec f q).2 h
    · rw [toInt_pos, show (64#32).toInt = 64 from rfl]; omega
  · rw [toInt_pos, show (2147483647#32).toInt = 2147483647 from rfl]; omega

/-- One step of the second way: of two pairs (value, position) the one of the greater value, and on equal values the
    one of the smaller position. -/
def pick (a b : EReal × BitVec 32) : EReal × BitVec 32 :=
  open Classical in if b.1 < a.1 ∨ (a.1 = b.1 ∧ a.2.toInt < b.2.toInt) then a else b

/-- `r` is at least as good a pair as `b`. -/
def Beats (r b : EReal × BitVec 32) : Prop := b.1 < r.1 ∨ (b.1 = r.1 ∧ r.2.toInt ≤ b.2.toInt)

theorem Beats.refl (a : EReal × BitVec 32) : Beats a a := .inr ⟨rfl, le_rfl⟩

theorem Beats.trans {a b c : EReal × BitVec 32} (h : Beats a b) (k : Beats b c) : Beats a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- The picked pair is one of the two and is at least as good as both. -/
theorem pick_spec (a b : EReal × BitVec 32) :
    (pick a b = a ∨ pick a b = b) ∧ Beats (pick a b) a ∧ Beats (pick a b) b := by
  unfold pick
  split_ifs with h
  · exact ⟨.inl rfl, .refl _, h.imp id fun h => ⟨h.1.symm, h.2.le⟩⟩
  · refine ⟨.inr rfl, ?_, .refl _⟩
    rcases lt_trichotomy a.1 b.1 with k | k | k
    · exact .inl k
    · exact .inr ⟨k, not_lt.1 fun h' => h (.inr ⟨k, h'⟩)⟩
    · exact absurd (.inl k) h

/-- Folding `pick` over a list, in whatever order it lists its pairs, ends at the initial pair or at one of the
    list's, and at one at least as good as all of them. -/
theorem foldl_pick (L : List (EReal × BitVec 32)) (a : EReal × BitVec 32) :
    (L.foldl pick a = a ∨ L.foldl pick a ∈ L) ∧ Beats (L.foldl pick a) a ∧ ∀ b ∈ L, Beats (L.foldl pick a) b := by
  induction L generalizing a with
  | nil => exact ⟨.inl rfl, .refl _, fun b hb => absurd hb List.not_mem_nil⟩
  | cons b L ih =>
    obtain ⟨hmem, hbeat, hall⟩ := ih (pick a b)
    obtain ⟨hpick, ha, hb⟩ := pick_spec a b
    rw [List.foldl_cons]
    refine ⟨?_, hbeat.trans ha, fun c hc => ?_⟩
    · rcases hmem with hmem | hmem
      · rw [hmem]
        exact hpick.imp id fun h => by rw [h]; exact List.mem_cons_self
      · exact .inr (List.mem_cons_of_mem _ hmem)
    · rcases List.mem_cons.1 hc with rfl | hc
      · exact hbeat.trans hb
      · exact hall c hc

/-- The second way: fold `pick` from (`⊥`, 0) over a list of exactly the 64 pairs (value, position). The position
    it ends at is the first of the greatest value (when every value is `⊥` that is position 0, the initial one). -/
theorem foldl_pick_positions (f : Fin 64 → EReal) (L : List (EReal × BitVec 32))
    (hL : ∀ r, r ∈ L ↔ ∃ p : Fin 64, r = (f p, BitVec.ofNat 32 (p : ℕ))) :
    (L.foldl pick (⊥, 0#32)).2 = BitVec.ofNat 32 (firstMax f : ℕ) := by
  obtain ⟨hmem, -, hall⟩ := foldl_pick L (⊥, 0#32)
  have hbest := hall _ ((hL _).2 ⟨firstMax f, rfl⟩)
  have hspec := firstMax_spec f
  generalize L.foldl pick (⊥, 0#32) = r at *
  generalize firstMax f = p at *
  rcases hmem with rfl | hr
  · rcases hbest with h | ⟨h, -⟩
    · exact absurd h not_lt_bot
    · have hz : f 0 = f p := le_antisymm (hspec 0).1 (by rw [show f p = ⊥ from h]; exact bot_le)
      have : p = 0 := Fin.le_zero_iff.1 ((hspec 0).2 hz)
      rw [this]; rfl
  · obtain ⟨q, rfl⟩ := (hL _).1 hr
    have hqp : q = p := by
      rcases hbest with h | ⟨h, h'⟩
      · exact absurd h (not_lt.2 (hspec q).1)
      · refine le_antisymm ?_ ((hspec q).2 h.symm)
        dsimp only at h'
        rw [toInt_pos, toInt_pos] at h'
        exact_mod_cast h'
    rw [hqp]

end Cert.Router

end
-- ==== Proof.Spec.lean ====
/-
  The router as mathematics, over the extended reals: the scores of every token, the expert chosen for it and its
  one-hot mask. Both programs are shown to compute these two functions of the three arguments.
-/
module

public import proofs.«01_k».proof.Proof.Argmax
public import Idealize.ShloMosaic.Lib.Pointwise

@[expose] public section

noncomputable section

open Idealize.ShloMosaic

namespace Cert.Router

/-- The score of token (`a`, `n`) for expert `p`: the inner product of the token with the expert's weights, plus the
    expert's bias. -/
def score (x : Vec Ideal ⟨3, ![4, 4096, 2048]⟩ .f32) (W : Vec Ideal ⟨2, ![64, 2048]⟩ .f32) (b : Vec Ideal ⟨1, ![64]⟩ .f32)
    (a : Fin 4) (n : Fin 4096) (p : Fin 64) : EReal :=
  ∑ k : Fin 2048, x (ix3 a n k) * W (ix2 p k) + b (ix1 p)

/-- The first result: for every token the first expert of its greatest score. -/
def selection (x : Vec Ideal ⟨3, ![4, 4096, 2048]⟩ .f32) (W : Vec Ideal ⟨2, ![64, 2048]⟩ .f32)
    (b : Vec Ideal ⟨1, ![64]⟩ .f32) : IVec ⟨2, ![4, 4096]⟩ 32 :=
  fun i => BitVec.ofNat 32 (firstMax (score x W b (i 0) (i 1)) : ℕ)

/-- The second result: for every token one at the chosen expert and zero at the others. -/
def mask (x : Vec Ideal ⟨3, ![4, 4096, 2048]⟩ .f32) (W : Vec Ideal ⟨2, ![64, 2048]⟩ .f32)
    (b : Vec Ideal ⟨1, ![64]⟩ .f32) : Vec Ideal ⟨3, ![4, 4096, 64]⟩ .f32 :=
  fun i => (if (show Fin 64 from i 2) = firstMax (score x W b (i 0) (i 1)) then 1 else 0 : EReal)

/-- The words of two positions are equal exactly when the positions are. -/
theorem ofNat_pos_inj (p q : Fin 64) : BitVec.ofNat 32 (p : ℕ) = BitVec.ofNat 32 (q : ℕ) ↔ p = q := by
  refine ⟨fun h => ?_, fun h => h ▸ rfl⟩
  have := congrArg BitVec.toInt h
  rw [toInt_pos, toInt_pos] at this
  exact Fin.ext (by exact_mod_cast this)

/-- A mask entry as a signed conversion makes it: the comparison of two positions, widened to a word and converted, is
    one where they agree and zero elsewhere. -/
theorem mask_signed (p q : Fin 64) :
    (FloatOps.sitofp .f32 (BitVec.setWidth 32 (IntOp.cmpi .eq (BitVec.ofNat 32 (p : ℕ)) (BitVec.ofNat 32 (q : ℕ)))) : Ideal .f32)
      = if p = q then (1 : EReal) else 0 := by
  show (((BitVec.setWidth 32 (IntOp.cmpi .eq (BitVec.ofNat 32 (p : ℕ)) (BitVec.ofNat 32 (q : ℕ)))).toInt : ℝ) : EReal) = _
  by_cases h : p = q
  · subst h; simp [IntOp.cmpi]
  · have h' : (BitVec.ofNat 32 (p : ℕ) == BitVec.ofNat 32 (q : ℕ)) = false :=
      beq_false_of_ne fun e => h ((ofNat_pos_inj p q).1 e)
    simp [IntOp.cmpi, h, h']

/-- A mask entry as an unsigned conversion of the comparison's bit makes it: the same one and zero. -/
theorem mask_unsigned (q p : Fin 64) :
    (FloatOps.uitofp .f32 (IntOp.cmpi .eq (BitVec.ofNat 32 (q : ℕ)) (BitVec.ofNat 32 (p : ℕ))) : Ideal .f32)
      = if p = q then (1 : EReal) else 0 := by
  show (((IntOp.cmpi .eq (BitVec.ofNat 32 (q : ℕ)) (BitVec.ofNat 32 (p : ℕ))).toNat : ℝ) : EReal) = _
  by_cases h : p = q
  · subst h; simp [IntOp.cmpi]
  · have h' : (BitVec.ofNat 32 (q : ℕ) == BitVec.ofNat 32 (p : ℕ)) = false :=
      beq_false_of_ne fun e => h ((ofNat_pos_inj q p).1 e).symm
    simp [IntOp.cmpi, h, h']

/-- The pattern the maximum starts from is minus infinity, the least extended real. -/
theorem ofBits_neg_inf : Ideal.ofBits .f32 0xFF800000#32 = (⊥ : EReal) := by
  simp [Ideal.ofBits, Ideal.ieee]

end Cert.Router

end
-- ==== Proof.Block.lean ====
/-
  What one grid point of the kernel computes from its three blocks — 2048 rows of tokens, the 64 rows of router
  weights, the 64 biases —, read at an index over the extended reals: the chosen expert of each row and the row's
  one-hot mask.
-/
module

public import proofs.«01_k».proof.Defs
public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic

namespace Cert.Router

open Cert.KernelIdeal Cert.KernelIdeal.Gen

/-- Row `r`'s score for expert `p`: the inner product of the row with the expert's weights, plus its bias. -/
def blockScore (x : Vec Ideal S2048x2048 .f32) (w : Vec Ideal S64x2048 .f32) (b : Vec Ideal S64x1 .f32)
    (r : Fin 2048) (p : Fin 64) : EReal :=
  ∑ k : Fin 2048, x (ix2 r k) * w (ix2 p k) + b (ix2 p 0)

/-- The selection at row `r`: the first expert of the greatest score. -/
theorem sel_at (x : Vec Ideal S2048x2048 .f32) (w : Vec Ideal S64x2048 .f32) (b : Vec Ideal S64x1 .f32) (r : Fin 2048) :
    k0_pay1 (F := Ideal) x w b (ix1 r) = BitVec.ofNat 32 (firstMax (blockScore x w b r) : ℕ) := by
  have hscore : blockScore x w b r = fun p => ∑ k : Fin 2048, w (ix2 p k) * x (ix2 r k) + b (ix2 p 0) :=
    funext fun p => by simp only [blockScore, mul_comm]
  rw [← fold_minsi_positions, hscore]
  pointwise [k0_pay1]
  rw [ofBits_neg_inf]

/-- The first output's block: at lane `r`, the selection at row `r`. -/
theorem selBlock_at (x : Vec Ideal S2048x2048 .f32) (w : Vec Ideal S64x2048 .f32) (b : Vec Ideal S64x1 .f32)
    (i j : Fin 1) (r : Fin 2048) :
    k0_pay3 (F := Ideal) x w b (ix3 i j r) = BitVec.ofNat 32 (firstMax (blockScore x w b r) : ℕ) := by
  rw [← sel_at]
  pointwise [k0_pay3]

/-- The second output's block: in row `r`, one in the column of the first expert of the greatest score, zero in
    the others. -/
theorem maskBlock_at (x : Vec Ideal S2048x2048 .f32) (w : Vec Ideal S64x2048 .f32) (b : Vec Ideal S64x1 .f32)
    (r : Fin 2048) (p : Fin 64) :
    k0_pay2 (F := Ideal) x w b (ix2 r p) = if p = firstMax (blockScore x w b r) then (1 : EReal) else 0 := by
  rw [← mask_signed]
  pointwise [k0_pay2]
  rw [sel_at]

end Cert.Router

end
-- ==== Proof.KernelValue.lean ====
/-
  What the kernel's program leaves in its two results. First the two arrays that the grid's eight points fill, as
  functions of the operands of the launch (`selArr`, `maskArr`: the blocks of 2048 rows cover the 16384 rows); then the
  results, which are those arrays reshaped, as functions of the three arguments; then the program's run.
-/
module

public import proofs.«01_k».proof.Defs
public import proofs.«01_k».proof.Proof.Gen.KernelIdeal.Frame
public import proofs.«01_k».proof.Proof.Block
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Router

open Cert.KernelIdeal Cert.KernelIdeal.Gen

/-! ## The arrays the grid fills -/

/-- Row `i`'s score for expert `p`, from the operands of the launch: the 16384 rows of tokens, the weights and the
    column of biases. -/
def rowScore (X : Vec Ideal S16384x2048 .f32) (W : Vec Ideal S64x2048 .f32) (B : Vec Ideal S64x1 .f32)
    (i : Fin 16384) (p : Fin 64) : EReal :=
  ∑ k : Fin 2048, X (ix2 i k) * W (ix2 p k) + B (ix2 p 0)

/-- The row that lane `r` of block `i` holds. -/
def rowOf (i : Fin 8) (r : Fin 2048) : Fin 16384 := ⟨i.val * 2048 + r.val, by omega⟩

/-- The array of selections: at block `i`, lane `r`, the first expert of the greatest score of row `2048 i + r`. -/
def selArr (X : Vec Ideal S16384x2048 .f32) (W : Vec Ideal S64x2048 .f32) (B : Vec Ideal S64x1 .f32) :
    IVec S8x1x2048 32 :=
  fun i => BitVec.ofNat 32 (firstMax (rowScore X W B (rowOf (i 0) (i 2))) : ℕ)

/-- The array of masks: in each row, one at the first expert of the greatest score and zero elsewhere. -/
def maskArr (X : Vec Ideal S16384x2048 .f32) (W : Vec Ideal S64x2048 .f32) (B : Vec Ideal S64x1 .f32) :
    Vec Ideal S16384x64 .f32 :=
  fun i => (if (show Fin 64 from i 1) = firstMax (rowScore X W B (i 0)) then 1 else 0 : EReal)

variable (m : (ℓ : Loc nD τ sig) → Buf (Elt Ideal) ℓ) (g : Dev nD → PrngReg)

/-- Which block each window is at: the rows of tokens and both outputs move with the point, the weights and the
    biases stay. -/
theorem idx : ∀ t : Fin cfg0.N, win0_0.index t = ![t.val, 0] ∧ win0_1.index t = ![0, 0] ∧ win0_2.index t = ![0, 0]
    ∧ win0_3.index t = ![t.val, 0, 0] ∧ win0_4.index t = ![t.val, 0] := by
  decide +kernel

/-- There are eight points. -/
theorem point_lt (t : Fin cfg0.N) : t.val < 8 := lt_of_lt_of_eq t.isLt N_0

/-- Point `t`'s block of tokens is the rows `2048 t …` of the array of tokens. -/
theorem tokens_iblk (c : Dev nD) (t : Fin cfg0.N) (r k : Fin 2048) :
    iblk m c 0 t (ix2 r k) = V m c main_call0_v0 (ix2 (rowOf ⟨t.val, point_lt t⟩ r) k) := by
  blk_ext [iblk, rowOf, idx t]

/-- Every point's block of weights is all of them. -/
theorem weights_iblk (c : Dev nD) (t : Fin cfg0.N) (p : Fin 64) (k : Fin 2048) :
    iblk m c 1 t (ix2 p k) = V m c main_arg1 (ix2 p k) := by
  blk_ext [iblk, idx t]

/-- Every point's block of biases is all of them. -/
theorem biases_iblk (c : Dev nD) (t : Fin cfg0.N) (p : Fin 64) :
    iblk m c 2 t (ix2 p 0) = V m c main_call0_v1 (ix2 p 0) := by
  blk_ext [iblk, idx t]

/-- The scores of the rows of point `t`'s block are those of the rows `2048 t …` of the whole array. -/
theorem blockScore_iblk (c : Dev nD) (t : Fin cfg0.N) (r : Fin 2048) :
    blockScore (iblk m c 0 t) (iblk m c 1 t) (iblk m c 2 t) r
      = rowScore (V m c main_call0_v0) (V m c main_arg1) (V m c main_call0_v1) (rowOf ⟨t.val, point_lt t⟩ r) := by
  funext p
  unfold blockScore rowScore
  rw [biases_iblk]
  simp only [tokens_iblk, weights_iblk]

/-- Where lane `r` of point `t`'s block of selections lies in its array. -/
theorem sel_place (t : Fin cfg0.N) (i j : Fin 1) (r : Fin 2048) :
    ((View.whole main_call0_v2_0).slice (win0_3.rect t)).emb (ix3 i j r) = ix3 (⟨t.val, point_lt t⟩ : Fin 8) (0 : Fin 1) r := by
  blk_ext [idx t]

/-- Where row `r` of point `t`'s block of masks lies in its array. -/
theorem mask_place (t : Fin cfg0.N) (r : Fin 2048) (p : Fin 64) :
    ((View.whole main_call0_v2_1).slice (win0_4.rect t)).emb (ix2 r p) = ix2 (rowOf ⟨t.val, point_lt t⟩ r) p := by
  blk_ext [rowOf, idx t]

/-- After the run the first output's array is the array of selections. -/
theorem selArr_eq (c : Dev nD) :
    (dats m 0 c).arrAt 3 (cfgs 0).N = selArr (V m c main_call0_v0) (V m c main_arg1) (V m c main_call0_v1) := by
  refine (dats m 0 c).arrAt_eq_of_covers 3 _ (by decide +kernel) fun t hf y => ?_
  blk_simp; rw [after0_3]; frame_out
  idx_vars y
  rw [selBlock_at, blockScore_iblk, sel_place]
  rfl

/-- After the run the second output's array is the array of masks. -/
theorem maskArr_eq (c : Dev nD) :
    (dats m 0 c).arrAt 4 (cfgs 0).N = maskArr (V m c main_call0_v0) (V m c main_arg1) (V m c main_call0_v1) := by
  refine (dats m 0 c).arrAt_eq_of_covers 4 _ (by decide +kernel) fun t hf y => ?_
  blk_simp; rw [after0_4]; frame_out
  idx_vars y
  rw [maskBlock_at, blockScore_iblk, mask_place]
  rfl

/-! ## The results -/

/-- The two leading axes of an array taken as one, read at an index. -/
theorem merged_at (x : Vec Ideal S4x4096x2048 .f32) (h : S4x4096x2048.ShapeCasts S16384x2048) (a : Fin 4) (n : Fin 4096)
    (k : Fin 2048) (i : Fin 16384) (hi : i.val = a.val * 4096 + n.val) : shapeCast S16384x2048 x h (ix2 i k) = x (ix3 a n k) := by
  obtain ⟨i, hlt⟩ := i
  obtain rfl : i = a.val * 4096 + n.val := hi
  pointwise

/-- The tokens as the kernel is launched on them: the two leading axes of the argument as one. -/
theorem tokens_entry (c : Dev nD) (a : Fin 4) (n : Fin 4096) (k : Fin 2048) (i : Fin 16384) (hi : i.val = a.val * 4096 + n.val) :
    V m c main_call0_v0 (ix2 i k) = m ((c : Thread nD τ).loc main_arg0) (ix3 a n k) := by
  unfold V V0
  simp only [hostOps0, List.flatten_cons, List.flatten_nil, List.append_nil]
  after_results
  exact merged_at (m ((c : Thread nD τ).loc main_arg0)) _ a n k i hi

/-- The biases as the kernel is launched on them: the argument as a column. -/
theorem biases_entry (c : Dev nD) (p : Fin 64) :
    V m c main_call0_v1 (ix2 p 0) = m ((c : Thread nD τ).loc main_arg2) (ix1 p) := by
  unfold V V0
  simp only [hostOps0, List.flatten_cons, List.flatten_nil, List.append_nil]
  after_results
  show shapeCast S64x1 (m ((c : Thread nD τ).loc main_arg2)) _ (ix2 p 0) = _
  pointwise

/-- The scores of a row of the launch's operands are those of the token it holds. -/
theorem rowScore_entry (c : Dev nD) (a : Fin 4) (n : Fin 4096) (i : Fin 16384) (hi : i.val = a.val * 4096 + n.val) :
    rowScore (V m c main_call0_v0) (V m c main_arg1) (V m c main_call0_v1) i
      = score (m ((c : Thread nD τ).loc main_arg0)) (m ((c : Thread nD τ).loc main_arg1)) (m ((c : Thread nD τ).loc main_arg2)) a n := by
  funext p
  unfold rowScore score
  rw [biases_entry, V_main_arg1]
  simp only [tokens_entry m c a n _ i hi]

/-- What the line of operations after the launch finds in the arrays the grid filled. -/
theorem exit_arr (c : Dev nD) (w : Fin cfg0.W) :
    Pipeline.withArrays (cfgs 0).spec c (V0 m c) (fun w => (dats m 0 c).arrAt w (cfgs 0).N)
        (Proc.devRef .tc (Pipeline.arrRef spec0 w)) = (dats m 0 c).arrAt w (cfgs 0).N :=
  Pipeline.withArrays_arr spec0 (by decide) c _ _ w

/-- The first result is the selection: the array of selections reshaped to one entry a token. -/
theorem sel_result (c : Dev nD) : Pipeline.afterTail₀ cfgs (dats m) 0 (V0 m) [hostOps1] c main_v0_0
   = selection (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results
  show (fun i => shapeCast S4x4096 (Pipeline.withArrays (cfgs 0).spec c (V0 m c) (fun w => (dats m 0 c).arrAt w (cfgs 0).N)
        (Proc.devRef .tc (Pipeline.arrRef spec0 3))) _ i) = _
  rw [exit_arr, selArr_eq]
  funext i
  idx_vars i
  pointwise [selArr]
  rw [rowScore_entry m c i0 i1 _ (by show (i0.val * 2 + i1.val / 2048) * 2048 + i1.val % 2048 = _; omega)]
  rfl

/-- The second result is the mask: the array of masks, its rows split into the two leading axes. -/
theorem mask_result (c : Dev nD) : Pipeline.afterTail₀ cfgs (dats m) 0 (V0 m) [hostOps1] c main_v0_1
   = mask (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results
  show (fun i => shapeCast S4x4096x64 (Pipeline.withArrays (cfgs 0).spec c (V0 m c) (fun w => (dats m 0 c).arrAt w (cfgs 0).N)
        (Proc.devRef .tc (Pipeline.arrRef spec0 4))) _ i) = _
  rw [exit_arr, maskArr_eq]
  funext i
  idx_vars i
  pointwise [maskArr]
  rw [rowScore_entry m c i0 i1 _ rfl]
  rfl

/-- The kernel's program runs, ends with `selection` and `mask` of its arguments in its two results, and leaves the
    arguments as they were. -/
theorem run : θ_run (defs (F := Ideal)) (onTc (τ := τ) (main (F := Ideal))) ⟨m, fun _ => 0, g⟩ (fun r => ∀ c : Dev nD,
     r.2.mem ((c : Thread nD τ).loc main_v0_0) = selection (m ((c : Thread nD τ).loc main_arg0)) (m ((c : Thread nD τ).loc main_arg1)) (m ((c : Thread nD τ).loc main_arg2))
     ∧ r.2.mem ((c : Thread nD τ).loc main_v0_1) = mask (m ((c : Thread nD τ).loc main_arg0)) (m ((c : Thread nD τ).loc main_arg1)) (m ((c : Thread nD τ).loc main_arg2))
     ∧ r.2.mem ((c : Thread nD τ).loc main_arg0) = m ((c : Thread nD τ).loc main_arg0)
     ∧ r.2.mem ((c : Thread nD τ).loc main_arg1) = m ((c : Thread nD τ).loc main_arg1)
     ∧ r.2.mem ((c : Thread nD τ).loc main_arg2) = m ((c : Thread nD τ).loc main_arg2)) := by
  run_from (Cert.KernelIdeal.Gen.run_main m g)
  · exact sel_result m c
  · exact mask_result m c
  · exact W_main_arg0 m (dats m) c
  · exact W_main_arg2 m (dats m) c

end Cert.Router

end
-- ==== Proof.ReferenceValue.lean ====
/-
  What the reference leaves in its two results: `selection` and `mask` of its three arguments. Its arg-max is a fold of a
  pair (value, position) along the experts, in one pass; here it is shown to end at the first expert of the greatest
  score, whatever order the fold takes the experts in.
-/
module

public import proofs.«01_k».proof.Defs
public import proofs.«01_k».proof.Proof.Gen.ReferenceIdeal
public import proofs.«01_k».proof.Proof.Spec
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Router.Reference

open Cert.ReferenceIdeal Cert.ReferenceIdeal.Facts₀

/-- The arg-max's step, over the extended reals (where nothing compares unequal to itself), is `pick`. -/
theorem reducer_eq : (reducer_argmax_f32_i32 (F := Ideal)) = pick := by
  funext a b
  obtain ⟨a, i⟩ := a
  obtain ⟨b, j⟩ := b
  unfold pick
  simp only [reducer_argmax_f32_i32, Ideal.cmpf_def, Ideal.cmp, IntOp.cmpi, IntOp.ori, IntOp.andi, Scalar.select, BitVec.slt]
  rcases lt_trichotomy a b with h | h | h
  · simp [h, h.ne, h.not_gt]
  · subst h
    by_cases k : i.toInt < j.toInt <;> simp [k]
  · simp [h, h.ne']

/-- The pairs the arg-max folds over at token (`a`, `n`) are exactly the 64 pairs (value, position) of that token. -/
theorem mem_fiber [Facts] (x : FVec Ideal S4x4096x64 .f32) (a : Fin 4) (n : Fin 4096) (r : EReal × BitVec 32) :
    r ∈ Host.argReduceFiber x (iotaInDim S4x4096x64 32 2) reducesTo_S4x4096x64_S4x4096_d2 (ix2 a n)
      ↔ ∃ p : Fin 64, r = ((x (ix3 a n p) : EReal), BitVec.ofNat 32 (p : ℕ)) := by
  have hdrop : ∀ i : S4x4096x64.Idx, Shape.ReducesTo.drop reducesTo_S4x4096x64_S4x4096_d2 i = ix2 (i 0) (i 1) := fun i => by
    refine (eq_ix2 (Shape.ReducesTo.drop reducesTo_S4x4096x64_S4x4096_d2 i)).trans ((ix2_inj _ _ _ _).2 ⟨Fin.ext ?_, Fin.ext ?_⟩)
    · exact Shape.ReducesTo.drop_apply_val_of_eq reducesTo_S4x4096x64_S4x4096_d2 i 0 0
    · exact Shape.ReducesTo.drop_apply_val_of_eq reducesTo_S4x4096x64_S4x4096_d2 i 1 1
  simp only [Host.argReduceFiber, List.mem_map, List.mem_filter, List.mem_finRange, true_and, decide_eq_true_eq, hdrop]
  constructor
  · rintro ⟨q, hq, rfl⟩
    generalize S4x4096x64.rowMajor.symm q = i at *
    idx_vars i
    obtain ⟨rfl, rfl⟩ := (ix2_inj _ _ _ _).1 hq
    exact ⟨_, rfl⟩
  · rintro ⟨p, rfl⟩
    refine ⟨S4x4096x64.rowMajor (ix3 a n p), ?_, ?_⟩ <;> rw [Equiv.symm_apply_apply] <;> rfl

/-- The arg-max's position at token (`a`, `n`) is the first of the greatest of its 64 values. -/
theorem argmax_at [Facts] (x : FVec Ideal S4x4096x64 .f32) (a : Fin 4) (n : Fin 4096) :
    (Host.argReduce reducer_argmax_f32_i32 x (iotaInDim S4x4096x64 32 2) (constant S_ .f32 0xFF800000#32) (constantI S_ 32 0#32)
        reducesTo_S4x4096x64_S4x4096_d2 h_S_ (ix2 a n)).2
      = BitVec.ofNat 32 (firstMax (fun p => (x (ix3 a n p) : EReal)) : ℕ) := by
  rw [Ideal.argReduce_eq_reduce2, Host.reduce2_eq_foldl_fiber, reducer_eq]
  rw [show (constant (F := Ideal) S_ .f32 0xFF800000#32 (Shape.Idx.first h_S_), constantI S_ 32 0#32 (Shape.Idx.first h_S_)) = ((⊥ : EReal), 0#32) from
    Prod.ext ofBits_neg_inf rfl]
  exact foldl_pick_positions _ _ (mem_fiber x a n)

/-- The reference's scores, as its first operations compute them. -/
def scores [Facts] (x : FVec Ideal S4x4096x2048 .f32) (W : FVec Ideal S64x2048 .f32) (b : FVec Ideal S64 .f32) :
    FVec Ideal S4x4096x64 .f32 :=
  addf (Host.dotGeneral dot_S4x4096x2048_S2048x64_S4x4096x64_2_0_01_1_n_n none x
      (transpose S2048x64 [1, 0] W transposes_S64x2048_S2048x64_1_0))
    (broadcastInDim S4x4096x64 ![0, 1, 2] bcast_S1x1x64_S4x4096x64_0_1_2 (shapeCast S1x1x64 b shapeCasts_S64_S1x1x64))

/-- They are the scores of the mathematics. -/
theorem scores_at [Facts] (x : FVec Ideal S4x4096x2048 .f32) (W : FVec Ideal S64x2048 .f32) (b : FVec Ideal S64 .f32)
    (a : Fin 4) (n : Fin 4096) (p : Fin 64) : scores x W b (ix3 a n p) = score x W b a n p := by
  pointwise [scores, score]

/-- The arg-max of the reference's scores. -/
def positions [Facts] (x : FVec Ideal S4x4096x2048 .f32) (W : FVec Ideal S64x2048 .f32) (b : FVec Ideal S64 .f32) :
    IVec S4x4096 32 :=
  fun j => (Host.argReduce reducer_argmax_f32_i32 (scores x W b) (iotaInDim S4x4096x64 32 2)
    (constant S_ .f32 0xFF800000#32) (constantI S_ 32 0#32) reducesTo_S4x4096x64_S4x4096_d2 h_S_ j).2

/-- It is the selection. -/
theorem positions_eq [Facts] (x : FVec Ideal S4x4096x2048 .f32) (W : FVec Ideal S64x2048 .f32) (b : FVec Ideal S64 .f32) :
    positions x W b = selection x W b := by
  unfold positions
  funext i
  idx_vars i
  rw [argmax_at]
  simp only [scores_at]
  rfl

/-- The one-hot rows the reference makes of an array of positions. -/
def oneHot [Facts] (s : IVec S4x4096 32) : FVec Ideal S4x4096x64 .f32 :=
  uitofp .f32 (cmpi .eq
    (broadcastInDim S4x4096x64 ![0, 1, 2] bcast_S4x4096x1_S4x4096x64_0_1_2
      (broadcastInDim S4x4096x1 ![0, 1] bcast_S4x4096_S4x4096x1_0_1 s))
    (broadcastInDim S4x4096x64 ![0, 1, 2] bcast_S1x1x64_S4x4096x64_0_1_2 (iotaInDim S1x1x64 32 2)))

/-- Of the selection they are the mask. -/
theorem oneHot_selection [Facts] (x : FVec Ideal S4x4096x2048 .f32) (W : FVec Ideal S64x2048 .f32) (b : FVec Ideal S64 .f32) :
    oneHot (selection x W b) = mask x W b := by
  funext i
  idx_vars i
  refine Eq.trans ?_ (mask_unsigned (firstMax (score x W b i0 i1)) i2)
  pointwise [oneHot, selection]

variable (m : (ℓ : Loc nD τ sig) → Buf (Elt Ideal) ℓ) (g : Dev nD → PrngReg)

/-- The reference runs, ends with `selection` and `mask` of its arguments in its two results, and leaves the arguments
    as they were. -/
theorem run [Facts] : θ_run (defs (F := Ideal)) (onTc (τ := τ) (main (F := Ideal))) ⟨m, fun _ => 0, g⟩ (fun r => ∀ c : Dev nD,
     r.2.mem ((c : Thread nD τ).loc main_v5) = selection (m ((c : Thread nD τ).loc main_arg0)) (m ((c : Thread nD τ).loc main_arg1)) (m ((c : Thread nD τ).loc main_arg2))
     ∧ r.2.mem ((c : Thread nD τ).loc main_v6) = mask (m ((c : Thread nD τ).loc main_arg0)) (m ((c : Thread nD τ).loc main_arg1)) (m ((c : Thread nD τ).loc main_arg2))
     ∧ r.2.mem ((c : Thread nD τ).loc main_arg0) = m ((c : Thread nD τ).loc main_arg0)
     ∧ r.2.mem ((c : Thread nD τ).loc main_arg1) = m ((c : Thread nD τ).loc main_arg1)
     ∧ r.2.mem ((c : Thread nD τ).loc main_arg2) = m ((c : Thread nD τ).loc main_arg2)) := by
  hlo_run
  · simp -implicitDefEqProofs only [StableHlo.TRef.ofBuf_toBuf, StableHlo.TRef.toBuf, StableHlo.TRef.ofBuf, cast_eq]
    exact positions_eq (m ((c : Thread nD τ).loc main_arg0)) (m ((c : Thread nD τ).loc main_arg1)) (m ((c : Thread nD τ).loc main_arg2))
  · rw [← oneHot_selection, ← positions_eq]
    simp -implicitDefEqProofs only [StableHlo.TRef.ofBuf_toBuf, StableHlo.TRef.toBuf, StableHlo.TRef.ofBuf, cast_eq]
    unfold oneHot positions scores
    rfl

end Cert.Router.Reference

end
-- ==== Proof.lean ====
/-
  The proof of `Cert.Claim`: the frames of the three programs, the idealization of the kernel, and the equality, over the
  extended reals, of the two results of the kernel with those of the reference. The mathematics is in Proof/Argmax.lean
  (the first position of a maximum) and Proof/Spec.lean (`selection` and `mask`); that the kernel computes them is in
  Proof/Block.lean and Proof/KernelValue.lean, that the reference does in Proof/ReferenceValue.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The reference's frame: it runs to its end, leaves its arguments as they were, and has no semaphore. -/
theorem reference_frame : Cert.quiescent_ReferenceIdeal := fun m g _ =>
  (θ_run _ _ _).mono (fun r h => ⟨fun c => (h c).2.2, sem_eq_zero_of_no_sems rfl r.2⟩) (Cert.Router.Reference.run m g)

/-- Over the extended reals the kernel and the reference end with the same two results: from memories that agree on the
    arguments both end at `selection` and `mask` of them. -/
theorem results_equal : Cert.algebraic_KernelIdeal_ReferenceIdeal := fun m g m' g' _ agree =>
  ⟨_, _, Cert.Router.run m g, (θ_run _ _ _).mono (fun r h c => by
    obtain ⟨e0, e1, e2⟩ := agree c
    obtain ⟨h5, h6, hargs⟩ := h c
    rw [e0, e1, e2] at h5 h6
    exact ⟨h5, h6, hargs⟩) (Cert.Router.Reference.run m' g')⟩

/-- Everything claimed: the two kernels' frames and the reference's, the idealization (which rewrote nothing), and the
    equality of both results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  results_equal⟩

end Cert.Proof

end
